-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S7813x128 : Shape := ⟨2, ![7813, 128]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S7813x128 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 7813#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S7813x128 : Shape := ⟨2, ![7813, 128]⟩
abbrev S16384 : Shape := ⟨1, ![16384]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S256x128 : Shape := ⟨2, ![256, 128]⟩
abbrev S256 : Shape := ⟨1, ![256]⟩

abbrev nBuf : Table → Nat
  | .hbm => 4
  | .local .tc .vmem => 2
  | .local .scVector .vmem => 2
  | _ => 0

abbrev bufTy : (tb : Table) → Fin (nBuf tb) → BufTy
  | .hbm, ⟨0, _⟩ => ⟨S7813x128, .f32⟩
  | .hbm, ⟨1, _⟩ => ⟨S16384, .i32⟩
  | .hbm, ⟨2, _⟩ => ⟨S7813x128, .f32⟩
  | .hbm, ⟨3, _⟩ => ⟨S16384x128, .f32⟩
  | .local .tc .vmem, ⟨0, _⟩ => ⟨S7813x128, .f32⟩
  | .local .tc .vmem, ⟨1, _⟩ => ⟨S7813x128, .f32⟩
  | .local .scVector .vmem, ⟨0, _⟩ => ⟨S512, .i32⟩
  | .local .scVector .vmem, ⟨1, _⟩ => ⟨S512x128, .f32⟩
  | _, _ => ⟨S7813x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => true
  | ⟨1, _⟩ => true
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_stg0_0 : Ref sig .tc := ⟨.vmem, 0, rfl⟩
abbrev cc0_stg1_0 : Ref sig .tc := ⟨.vmem, 1, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S7813x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7813x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_18_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S7813x128 : Shape := ⟨2, ![7813, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S7813x128, .f32⟩
  | .hbm, ⟨1, _⟩ => ⟨S16384, .i32⟩
  | .hbm, ⟨2, _⟩ => ⟨S7813x128, .f32⟩
  | .hbm, ⟨3, _⟩ => ⟨S7813x128, .f32⟩
  | .hbm, ⟨4, _⟩ => ⟨S_, .f32⟩
  | .hbm, ⟨5, _⟩ => ⟨S7813x128, .f32⟩
  | .hbm, ⟨6, _⟩ => ⟨S7813x128, .f32⟩
  | .hbm, ⟨7, _⟩ => ⟨S_, .f32⟩
  | .hbm, ⟨8, _⟩ => ⟨S7813x128, .f32⟩
  | .hbm, ⟨9, _⟩ => ⟨S7813x128, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | _, _ => ⟨S7813x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Setup.lean ====
/-
  The set-up of the proof: the program as the launch theorem for SparseCore programs sees it, the ghost state, the
  arrays of @main, what they hold, and what the handshakes of the one SparseCore call carry.

  @main first writes the sigmoid of the whole `mask` into a table (a TensorCore call), then gathers rows of that table by
  `idx` (a SparseCore call on 2 cores of 16 tiles). Tile `(c, s)` fills rows `512 w … 512 w + 511` of the result, where
  `w = 2 s + c`: row `r` of the result is row `idx r` of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

section
variable [FloatOps F]

theorem nCore_zero : (K (F := F)).nCore 0 = 2 := rfl
theorem nSub_zero : (K (F := F)).nSub 0 = 16 := rfl

/-- The handshakes' semaphores are distinct and outside every kernel's scope. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end

/-! ## The ghost state: the handshakes' rounds, the pipeline's staging cells, the transfers' counters -/

abbrev UH : Type := URounds (GSem nD τ sig) ℕ
abbrev UP : Type := URounds (GSem nD τ sig) Unit
abbrev UU : Type := UH × (UP × Counters)

abbrev 𝕄 (F : FTy → Type) : Type := MT nD τ sig (HIx 1) (Elt F) ℕ UU ℕ

/-- Where the handshakes' rounds live. -/
abbrev EH : Emb UH (MT nD τ sig (HIx 1) (Elt F) ℕ UU ℕ) := embL
/-- Where the pipeline's staging cells live. -/
abbrev EP : Emb UP (MT nD τ sig (HIx 1) (Elt F) ℕ UU ℕ) := (Emb.inl : Emb UP (UP × Counters)).trans embR

/-! ## The arrays of @main and what they hold -/

variable (m : (ℓ : Loc nD τ sig) → Buf (Elt F) ℓ)

/-- `mask`, `idx`, the table of sigmoids, and the result, on device `d`. -/
abbrev aLoc (d : Dev nD) : Loc nD τ sig := (SparseCore.T d).loc main_arg0
abbrev iLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1

/-- The row of the table an index word names: the word itself, when it is below 7813. -/
def rowOf (v : BitVec 32) : Fin 7813 := Fin.ofNat 7813 v.toNat

theorem rowOf_val {v : BitVec 32} (h : v.toNat < 7813) : (rowOf v).val = v.toNat := Nat.mod_eq_of_lt h

/-- The table of sigmoids, from the `mask` of device `d`. -/
def tab [FloatOps F] (d : Dev nD) : Buf (Elt F) (xLoc d) := k0_pay1 (F := F) (m (aLoc d))

/-- The result: row `r` is the table's row `idx r`. -/
def out [FloatOps F] (d : Dev nD) : Buf (Elt F) (oLoc d) :=
  fun x => tab m d (ix2 (rowOf (m (iLoc d) (ix1 (x 0)))) (x 1))

/-- What the proof asks of the memory at the launch: every index names a row of the table. -/
def PreOK : Prop := ∀ (d : Dev nD) (j : S16384.Idx), (m (iLoc d) j).toNat < 7813

/-! ## The blocks: one of `idx` and one of the result per tile -/

local notation "iV" => (Memref.whole Cert.KernelIdeal.main_arg1_scv : Memref Cert.KernelIdeal.sig Kind.scVector Space.hbm Cert.KernelIdeal.S16384 EltTy.i32)
local notation "oV" => (Memref.whole Cert.KernelIdeal.main_v1_scv : Memref Cert.KernelIdeal.sig Kind.scVector Space.hbm Cert.KernelIdeal.S16384x128 EltTy.f32)

theorem idiv : 32 ∣ S16384.size 0 := ⟨512, rfl⟩
theorem odiv : 32 ∣ S16384x128.size 0 := ⟨512, rfl⟩
/-- Entries `512 w … 512 w + 511` of `idx`; rows `512 w … 512 w + 511` of the result. -/
abbrev iblk (w : Fin 32) : Rect S16384 := Rect.part (s := S16384) (a₀ := 0) idiv w
abbrev oblk (w : Fin 32) : Rect S16384x128 := Rect.part (s := S16384x128) (a₀ := 0) odiv w
abbrev iSet (w : Fin 32) : Finset S16384.Idx := ((iV).view.slice (iblk w)).set
abbrev oSet (w : Fin 32) : Finset S16384x128.Idx := ((oV).view.slice (oblk w)).set

/-- The number of tile `(c, s)`. -/
def wid (c : Fin 2) (s : Fin 16) : Fin 32 := ⟨2 * s.val + c.val, by omega⟩

/-- Tile `w`'s share of the table, which all thirty-two read at once. -/
abbrev xq (w : Fin 32) : PosShare TreeShare := pieceOf fullShare 32 (by decide) w

/-! ## What the handshakes carry -/

abbrev iPts (d : Dev nD) : sProp (𝕄 F) := iLoc d ↦{fullShare} m (iLoc d)
abbrev xPts (d : Dev nD) (f : Buf (Elt F) (xLoc d)) : sProp (𝕄 F) := xLoc d ↦{fullShare} f
abbrev oPts (d : Dev nD) (f : Buf (Elt F) (oLoc d)) : sProp (𝕄 F) := oLoc d ↦{fullShare} f
abbrev iBlkPts (d : Dev nD) (w : Fin 32) : sProp (𝕄 F) := iLoc d ↦[iSet w]{fullShare} m (iLoc d)
abbrev xShPts (d : Dev nD) (w : Fin 32) (f : Buf (Elt F) (xLoc d)) : sProp (𝕄 F) := xLoc d ↦{xq w} f
abbrev oBlkPts (d : Dev nD) (w : Fin 32) (f : Buf (Elt F) (oLoc d)) : sProp (𝕄 F) := oLoc d ↦[oSet w]{fullShare} f

variable [FloatOps F]

/-- What tile `w` holds of @main's arrays: its block of `idx`, its share of the table, its block of the result at
    contents `f`. -/
abbrev tileHas (d : Dev nD) (f : Buf (Elt F) (oLoc d)) (w : Fin 32) : sProp (𝕄 F) :=
  iprop(iBlkPts m d w ∗ xShPts d w (tab m d) ∗ oBlkPts d w f)

/-- What the sixteen tiles of core `c` hold. -/
abbrev coreHas (d : Dev nD) (f : Buf (Elt F) (oLoc d)) (c : Fin 2) : sProp (𝕄 F) :=
  bigSep Finset.univ fun s : Fin 16 => tileHas m d f (wid c s)

/-- The call hands each core what its tiles hold, the table already computed and the result untouched, and takes it back
    with the result's blocks filled. -/
def P : (K (F := F)).Pay (nD := nD) (Val := Elt F) (Name := ℕ) (U := UU) where
  st := fun q d c => match q with | 0 => coreHas m d (m (oLoc d)) (Fin.cast nCore_zero c)
  dn := fun q d c => match q with | 0 => coreHas m d (out m d) (Fin.cast nCore_zero c)
  go := fun q d c i => match q with | 0 => tileHas m d (m (oLoc d)) (wid (Fin.cast nCore_zero c) (Fin.cast nSub_zero i))
  td := fun q d c i => match q with | 0 => tileHas m d (out m d) (wid (Fin.cast nCore_zero c) (Fin.cast nSub_zero i))
  x := fun _ _ => iprop(emp)

instance P_storable : (P (F := F) m).IsStorable where
  st q d c := match q with
    | 0 => (inferInstance : BI.Storable (upEmb : UEmb _ (𝕄 F)) (coreHas m d (m (oLoc d)) (Fin.cast nCore_zero c)))
  dn q d c := match q with
    | 0 => (inferInstance : BI.Storable (upEmb : UEmb _ (𝕄 F)) (coreHas m d (out m d) (Fin.cast nCore_zero c)))
  go q d c i := match q with
    | 0 => (inferInstance : BI.Storable (upEmb : UEmb _ (𝕄 F)) (tileHas m d (m (oLoc d)) (wid (Fin.cast nCore_zero c) (Fin.cast nSub_zero i))))
  td q d c i := match q with
    | 0 => (inferInstance : BI.Storable (upEmb : UEmb _ (𝕄 F)) (tileHas m d (out m d) (wid (Fin.cast nCore_zero c) (Fin.cast nSub_zero i))))

end Cert.Proof.Rows

end
-- ==== Proof.Block.lean ====
/-
  What one tile computes: its block of `idx`, the rows its two gathers land, and that writing those rows out leaves the
  tile's block of the result at the result (`out`). Contents only: nothing here is about a run.
-/
module

public import proofs.«01_k».proof.Proof.Setup

@[expose] public section

noncomputable section

namespace Cert.Proof.Rows

open Cert.KernelIdeal Cert.KernelIdeal.Gen

open Idealize.ShloMosaic
open Idealize.ShloMosaic.SparseCore (S V T)

variable {F : FTy → Type} (m : (ℓ : Loc nD τ sig) → Buf (Elt F) ℓ) (d : Dev nD) (L : grid1.Coords)

/-- The whole arrays and scratch buffers, as the tile's kernel is handed them. -/
abbrev iV : Memref sig .scVector .hbm S16384 .i32 := Memref.whole main_arg1_scv
abbrev xV : Memref sig .scVector .hbm S7813x128 .f32 := Memref.whole main_v0_scv
abbrev oV : Memref sig .scVector .hbm S16384x128 .f32 := Memref.whole main_v1_scv
abbrev sV : Memref sig .scVector .vmem S512 .i32 := Memref.whole cc1_scratch0
abbrev rV : Memref sig .scVector .vmem S512x128 .f32 := Memref.whole cc1_scratch1

/-- The core and the tile a grid point runs on, and the tile's number. -/
abbrev cV : Fin τ.nSC := (L 0).castLE hcore1
abbrev jV : Fin τ.nSub := (L 1).castLE hsub1
abbrev tileNo : Fin 32 := wid ⟨(L 0).val, (L 0).isLt⟩ ⟨(L 1).val, (L 1).isLt⟩

/-- The tile's block of `idx` and of the result, and all of the table, as the tile addresses them. -/
abbrev iBlkK : Memref sig .scVector .hbm S512 .i32 := iV.slice (Rect.unit (s := S16384) (k1_off1 L) S512.size (k1_off1_inb L)) (fun _ => rfl)
abbrev oBlkK : Memref sig .scVector .hbm S512x128 .f32 := oV.slice (Rect.unit (s := S16384x128) (k1_off2 L) S512x128.size (k1_off2_inb L)) (fun _ => rfl)
abbrev xAllK : Memref sig .scVector .hbm S7813x128 .f32 := xV.slice (Rect.unit (s := S7813x128) ![0, 0] S7813x128.size inb_S7813x128_S7813x128_0_0) (fun _ => rfl)

/-- The two halves of the index scratch and of the row scratch. -/
abbrev sLo : Memref sig .scVector .vmem S256 .i32 := sV.slice (Rect.unit (s := S512) ![0] S256.size inb_S512_S256_0) (fun _ => rfl)
abbrev sHi : Memref sig .scVector .vmem S256 .i32 := sV.slice (Rect.unit (s := S512) ![256] S256.size inb_S512_S256_256) (fun _ => rfl)
abbrev rLo : Memref sig .scVector .vmem S256x128 .f32 := rV.slice (Rect.unit (s := S512x128) ![0, 0] S256x128.size inb_S512x128_S256x128_0_0) (fun _ => rfl)
abbrev rHi : Memref sig .scVector .vmem S256x128 .f32 := rV.slice (Rect.unit (s := S512x128) ![256, 0] S256x128.size inb_S512x128_S256x128_256_0) (fun _ => rfl)

/-! ## The sets of elements -/

/-- The tile's rectangle of `idx` is block `tileNo` of thirty-two. -/
theorem set_iBlkK : (iBlkK L).view.set = iSet (tileNo L) := by
  have e : Rect.unit (s := S16384) (k1_off1 L) S512.size (k1_off1_inb L) = iblk (tileNo L) := by
    unfold iblk Rect.part Rect.block
    congr 1 <;> funext a
    · rw [k1_off1_eq]
      match a with
      | 0 => simp [Shape.partIx, Shape.partSize, wid]; omega
    · match a with
      | 0 => simp [Shape.partSize]
  exact (View.set_slice_whole _ _).trans ((congrArg (fun r : Rect S16384 => r.set) e).trans (View.set_slice_whole _ _).symm)

/-- The tile's rectangle of the result is block `tileNo` of thirty-two. -/
theorem set_oBlkK : (oBlkK L).view.set = oSet (tileNo L) := by
  have e : Rect.unit (s := S16384x128) (k1_off2 L) S512x128.size (k1_off2_inb L) = oblk (tileNo L) := by
    unfold oblk Rect.part Rect.block
    congr 1 <;> funext a
    · rw [k1_off2_eq]
      match a with
      | 0 => simp [Shape.partIx, Shape.partSize, wid]; omega
      | 1 => simp [Shape.partIx, Shape.partSize]
    · match a with
      | 0 => simp [Shape.partSize]
      | 1 => simp [Shape.partSize]
  exact (View.set_slice_whole _ _).trans ((congrArg (fun r : Rect S16384x128 => r.set) e).trans (View.set_slice_whole _ _).symm)

/-- The slice of the table a gather reads from is all of it. -/
theorem set_xAllK : (xAllK).view.set = Finset.univ := by
  refine (View.set_slice_whole _ _).trans (Finset.eq_univ_of_forall fun i => ?_)
  have h0 : (i 0).val < 7813 := (i 0).isLt
  have h1 : (i 1).val < 128 := (i 1).isLt
  refine Rect.mem_set_unit.mpr fun a => ?_
  match a with
  | 0 => exact ⟨Nat.zero_le _, by simpa using h0⟩
  | 1 => exact ⟨Nat.zero_le _, by simpa using h1⟩

/-- An entry of the index scratch lies in the 256 from `o` when its number does; -/
theorem mem_idxHalf {o : ℕ} (h : ∀ a, (![o] : Fin 1 → ℕ) a + S256.size a ≤ S512.size a) (i : S512.Idx) :
    i ∈ (Rect.unit (s := S512) ![o] S256.size h).set ↔ o ≤ (i 0).val ∧ (i 0).val < o + 256 :=
  Rect.mem_set_unit.trans ⟨fun h => h 0, fun h a => match a with | 0 => h⟩

/-- and an element of the row scratch in the 256 rows from `o` when its row does. -/
theorem mem_rowHalf {o : ℕ} (h : ∀ a, (![o, 0] : Fin 2 → ℕ) a + S256x128.size a ≤ S512x128.size a) (i : S512x128.Idx) :
    i ∈ (Rect.unit (s := S512x128) ![o, 0] S256x128.size h).set ↔ o ≤ (i 0).val ∧ (i 0).val < o + 256 := by
  have h1 : (i 1).val < 128 := (i 1).isLt
  exact Rect.mem_set_unit.trans ⟨fun h => h 0, fun h a => match a with | 0 => h | 1 => ⟨Nat.zero_le _, by simpa using h1⟩⟩

/-- The second half of the index scratch is what the first leaves; -/
theorem set_sHi : ((sHi).view.set : Finset S512.Idx) = Finset.univ \ (sLo).view.set := by
  refine (View.set_slice_whole _ _).trans (.trans ?_ (congrArg (Finset.univ \ ·) (View.set_slice_whole _ _).symm))
  refine Finset.ext fun i => ?_
  have h0 : (i 0).val < 512 := (i 0).isLt
  refine (mem_idxHalf _ i).trans (.trans ?_ (Finset.mem_sdiff.trans (and_congr_right fun _ => not_congr (mem_idxHalf _ i))).symm)
  simp only [Finset.mem_univ, true_and]; omega

/-- and of the row scratch likewise. -/
theorem set_rHi : ((rHi).view.set : Finset S512x128.Idx) = Finset.univ \ (rLo).view.set := by
  refine (View.set_slice_whole _ _).trans (.trans ?_ (congrArg (Finset.univ \ ·) (View.set_slice_whole _ _).symm))
  refine Finset.ext fun i => ?_
  have h0 : (i 0).val < 512 := (i 0).isLt
  refine (mem_rowHalf _ i).trans (.trans ?_ (Finset.mem_sdiff.trans (and_congr_right fun _ => not_congr (mem_rowHalf _ i))).symm)
  simp only [Finset.mem_univ, true_and]; omega

/-! ## The contents -/

/-- What the index fetch lands in the index scratch: the tile's block of `idx`. -/
def ival : S512.Idx → Elt F .i32 := (iBlkK L).view.read (Elt F) (m (iLoc d))

theorem ival_apply (x : S512.Idx) : ival m d L x = m (iLoc d) ((iBlkK L).view.emb x) := (View.read_apply _ _).trans (cast_eq _ _)

/-- Under the precondition each of them names a row of the table. -/
theorem ival_lt (hpre : PreOK m) (x : S512.Idx) : (ival m d L x).toNat < 7813 := by
  rw [ival_apply]; exact hpre d _

variable [FloatOps F]

/-- What the two gathers land in the row scratch: row `k` is the table's row the `k`-th index of the block names. -/
def rval : S512x128.Idx → Elt F .f32 := fun x => tab m d (ix2 (rowOf (ival m d L (ix1 (x 0)))) (x 1))

/-- Entry `k` of a list of 256, counted in row-major order, is its entry `k`. -/
theorem list_entry (k : Fin S256.numel) : (S256.rowMajor.symm k 0).val = k.val := by
  have h := Shape.rowMajor_val_one (S256.rowMajor.symm k)
  rw [Equiv.apply_symm_apply] at h
  exact h.symm

/-- A gather of 256 rows by the indices `o … o + 255` of the block, landed on rows `o … o + 255` of the row scratch,
    leaves there what `rval` says. -/
theorem gather_half (hpre : PreOK m) {o : ℕ} (hr : ∀ a, (![o, 0] : Fin 2 → ℕ) a + S256x128.size a ≤ S512x128.size a)
    (hs : ∀ a, (![o] : Fin 1 → ℕ) a + S256.size a ≤ S512.size a)
    (fr : Buf (Elt F) ((V d (cV L) (jV L)).loc cc1_scratch1))
    (hin : ∀ x, (((sV).slice (Rect.unit (s := S512) ![o] S256.size hs) (fun _ => rfl)).view.read (Elt F) (ival m d L) x).toNat
      < S7813x128.size gathers_S7813x128_S256x128.axis)
    (i : S512x128.Idx) (hi : i ∈ ((rV).slice (Rect.unit (s := S512x128) ![o, 0] S256x128.size hr) (fun _ => rfl)).view.set) :
    View.write (Elt F) ((rV).slice (Rect.unit (s := S512x128) ![o, 0] S256x128.size hr) (fun _ => rfl)).view fr
      (SparseCore.gatherPayload gathers_S7813x128_S256x128 ((xAllK).view.read (Elt F) (tab m d))
        (SparseCore.rows (((sV).slice (Rect.unit (s := S512) ![o] S256.size hs) (fun _ => rfl)).view.read (Elt F) (ival m d L)) rfl hin))
      Finset.univ i = rval m d L i := by
  obtain ⟨x, -, rfl⟩ := Finset.mem_map.mp hi
  refine ((View.write_emb_of_mem _ _ (Finset.mem_univ x)).trans (cast_eq _ _)).trans ?_
  -- the source's slice is the table itself, and its index is the named row and the lane
  have hx : ∀ j : S7813x128.Idx, (xAllK).view.emb j = j := fun j => funext fun a => Fin.ext (by
    show (![0, 0] : Fin 2 → ℕ) a + 1 * (j a).val = (j a).val
    match a with
    | 0 => simp
    | 1 => simp)
  have hread : ∀ j : S7813x128.Idx, (xAllK).view.read (Elt F) (tab m d) j = tab m d j := fun j =>
    ((View.read_apply _ _).trans (cast_eq _ _)).trans (congrArg (tab m d) (hx j))
  refine (hread _).trans (congrArg (tab m d) ?_)
  have hlist : ∀ y : S256.Idx, ((sV).slice (Rect.unit (s := S512) ![o] S256.size hs) (fun _ => rfl)).view.read (Elt F) (ival m d L) y
      = ival m d L ((Rect.unit (s := S512) ![o] S256.size hs).emb y) := fun y => (View.read_apply _ _).trans (cast_eq _ _)
  funext a
  refine Fin.ext ?_
  match a with
  | 0 =>
    refine (congrArg Fin.val (gathers_S7813x128_S256x128.idx_axis _ x)).trans ?_
    -- the list's entry for row `k` of the half is the block's index `o + k`
    refine (congrArg (BitVec.toNat (w := 32)) (hlist _)).trans ?_
    refine Eq.trans ?_ (rowOf_val (ival_lt m d L hpre _)).symm
    refine congrArg (fun j => (ival m d L j).toNat) (funext fun b => Fin.ext ?_)
    match b with
    | 0 => exact congrArg (fun n => o + 1 * n) (list_entry _)
  | 1 =>
    refine (gathers_S7813x128_S256x128.idx_of_ne _ x 1 (by decide)).trans ?_
    show (x 1).val = 0 + 1 * (x 1).val
    omega

/-- Writing the rows out leaves the tile's block of the result at `out`. -/
theorem out_block (fo : Buf (Elt F) (oLoc d)) (i : S16384x128.Idx) (hi : i ∈ (oBlkK L).view.set) :
    (oBlkK L).view.writes (Elt F) fo [⟨Rect.whole S512x128, rval m d L⟩] i = out m d i := by
  obtain ⟨x, -, rfl⟩ := Finset.mem_map.mp hi
  have hw : (oBlkK L).view.emb x = ((oBlkK L).view.slice (Rect.whole S512x128)).emb x :=
    congrArg (oBlkK L).view.emb (Rect.emb_whole_apply S512x128 x).symm
  refine (congrArg _ hw).trans (((View.write_emb_of_mem _ _ (Finset.mem_univ x)).trans (cast_eq _ _)).trans ?_)
  have hr : (Rect.unit (s := S16384) (k1_off1 L) S512.size (k1_off1_inb L)).emb (ix1 (x 0))
      = ix1 ((Rect.unit (s := S16384x128) (k1_off2 L) S512x128.size (k1_off2_inb L)).emb x 0) := funext fun a => Fin.ext (by
    match a with
    | 0 => rw [Rect.emb_apply, ix1_0, Rect.emb_apply]; simp only [Rect.off_unit, k1_off1_eq, k1_off2_eq]; rfl)
  have hc : (Rect.unit (s := S16384x128) (k1_off2 L) S512x128.size (k1_off2_inb L)).emb x 1 = x 1 := Fin.ext (by
    rw [Rect.emb_apply]; simp [k1_off2_eq])
  show tab m d (ix2 (rowOf (ival m d L (ix1 (x 0)))) (x 1)) = tab m d (ix2 (rowOf (m (iLoc d) (ix1 _))) _)
  rw [ival_apply]
  refine congrArg (tab m d) (congrArg₂ ix2 (congrArg (fun j => rowOf (m (iLoc d) j)) hr) hc.symm)

end Cert.Proof.Rows

end
-- ==== Proof.Tile.lean ====
/-
  One tile's run: from its block of `idx`, its share of the table and its block of the result, the kernel on vector
  subcore `(L 0, L 1)` runs to the end, faults nowhere, and leaves its block of the result at `out`.
-/
module

public import proofs.«01_k».proof.Proof.Block

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ) (d : Dev nD) (L : grid1.Coords)

/-- The tile's thread. -/
abbrev thr : Thread nD τ := V d (cV L) (jV L)

/-! ## What the tile's kernel addresses, in the words of the launch -/

theorem pts_iBlkK (f : Buf (Elt F) (iLoc d)) :
    ((iBlkK L).view.loc (thr d L) ↦[(iBlkK L).view.set]{fullShare} f : sProp (𝕄 F)) = iLoc d ↦[iSet (tileNo L)]{fullShare} f := by
  rw [set_iBlkK]
theorem pts_oBlkK (f : Buf (Elt F) (oLoc d)) :
    ((oBlkK L).view.loc (thr d L) ↦[(oBlkK L).view.set]{fullShare} f : sProp (𝕄 F)) = oLoc d ↦[oSet (tileNo L)]{fullShare} f := by
  rw [set_oBlkK]

/-- The tile's share of the table is two, one per gather, each over the slice the gather reads from. -/
theorem pts_xAllK (q : PosShare TreeShare) (f : Buf (Elt F) (xLoc d)) :
    (xLoc d ↦{q} f : sProp (𝕄 F))
      ⊣⊢ iprop(((xAllK).view.loc (thr d L) ↦[(xAllK).view.set]{q.left} f) ∗ ((xAllK).view.loc (thr d L) ↦[(xAllK).view.set]{q.right} f)) := by
  rw [set_xAllK]
  exact pointsTo_share (PosShare.mem_left_op_right q)

/-- The index scratch is its two halves; -/
theorem pts_sV (f : Buf (Elt F) ((thr d L).loc cc1_scratch0)) :
    ((thr d L).loc cc1_scratch0 ↦{fullShare} f : sProp (𝕄 F))
      ⊣⊢ iprop(((sLo).view.loc (thr d L) ↦[(sLo).view.set]{fullShare} f) ∗ ((sHi).view.loc (thr d L) ↦[(sHi).view.set]{fullShare} f)) := by
  rw [show (sHi).view.set = Finset.univ \ (sLo).view.set from set_sHi]
  exact pointsTo_split_subset (Finset.subset_univ (sLo).view.set)

/-- and the row scratch likewise. -/
theorem pts_rV (f : Buf (Elt F) ((thr d L).loc cc1_scratch1)) :
    ((thr d L).loc cc1_scratch1 ↦{fullShare} f : sProp (𝕄 F))
      ⊣⊢ iprop(((rLo).view.loc (thr d L) ↦[(rLo).view.set]{fullShare} f) ∗ ((rHi).view.loc (thr d L) ↦[(rHi).view.set]{fullShare} f)) := by
  rw [show (rHi).view.set = Finset.univ \ (rLo).view.set from set_rHi]
  exact pointsTo_split_subset (Finset.subset_univ (rLo).view.set)

/-! ## The tile's own semaphores and buffers -/

/-- The completion cells: of the index fetch, of the two gathers, of the write-out. -/
abbrev cellI : GSem nD τ sig := (thr d L, .dma cc1_scoped0.sem)
abbrev cellA : GSem nD τ sig := (thr d L, .dma cc1_scratch2.sem)
abbrev cellB : GSem nD τ sig := (thr d L, .dma cc1_scratch3.sem)
abbrev cellO : GSem nD τ sig := (thr d L, .dma cc1_scoped1.sem)

/-- The four cells are among the subcore's own: they at zero, and the rest. -/
theorem ownSems0_tile :
    (ownSems0 (thr d L) : sProp (𝕄 F))
      = iprop(semVal (cellI d L) 0 ∗ semVal (cellA d L) 0 ∗ semVal (cellB d L) 0 ∗ semVal (cellO d L) 0
          ∗ bigSep (((((ownCells (thr d L)).erase (cellI d L)).erase (cellA d L)).erase (cellB d L)).erase (cellO d L)) fun g => semVal g 0) := by
  have hne : ∀ s t : DmaSem sig, s ≠ t → ((thr d L, SemLoc.dma s) : GSem nD τ sig) ≠ (thr d L, SemLoc.dma t) := fun s t h e =>
    h (by simpa using e)
  have hI : cellI d L ∈ ownCells (thr d L) := mem_ownCells.mpr ⟨rfl, by show (SemLoc.dma cc1_scoped0.sem : SemLoc sig).isScoped .scVector = true; decide⟩
  have hA : cellA d L ∈ ownCells (thr d L) := mem_ownCells.mpr ⟨rfl, by show (SemLoc.dma cc1_scratch2.sem : SemLoc sig).isScoped .scVector = true; decide⟩
  have hB : cellB d L ∈ ownCells (thr d L) := mem_ownCells.mpr ⟨rfl, by show (SemLoc.dma cc1_scratch3.sem : SemLoc sig).isScoped .scVector = true; decide⟩
  have hO : cellO d L ∈ ownCells (thr d L) := mem_ownCells.mpr ⟨rfl, by show (SemLoc.dma cc1_scoped1.sem : SemLoc sig).isScoped .scVector = true; decide⟩
  unfold SparseCore.Cfg.ownSems0
  rw [SparseCore.bigSep_erase' hI, SparseCore.bigSep_erase' (Finset.mem_erase.mpr ⟨hne _ _ (by decide), hA⟩),
    SparseCore.bigSep_erase' (Finset.mem_erase.mpr ⟨hne _ _ (by decide), Finset.mem_erase.mpr ⟨hne _ _ (by decide), hB⟩⟩),
    SparseCore.bigSep_erase' (Finset.mem_erase.mpr ⟨hne _ _ (by decide), Finset.mem_erase.mpr ⟨hne _ _ (by decide),
      Finset.mem_erase.mpr ⟨hne _ _ (by decide), hO⟩⟩⟩)]

/-- The two scratch buffers are among the subcore's own: they, at some contents, and the rest. -/
theorem ownBufs_tile :
    (ownBufs (thr d L) : sProp (𝕄 F))
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

/-! ## The gathers' lists are in range -/

theorem inb_half (hpre : PreOK m) {o : ℕ} (hs : ∀ a, (![o] : Fin 1 → ℕ) a + S256.size a ≤ S512.size a) :
    ∀ x, (((sV).slice (Rect.unit (s := S512) ![o] S256.size hs) (fun _ => rfl)).view.read (Elt F) (ival m d L) x).toNat
      < S7813x128.size gathers_S7813x128_S256x128.axis := fun x =>
  (congrArg (BitVec.toNat (w := 32)) ((View.read_apply _ _).trans (cast_eq _ _))).trans_lt (ival_lt m d L hpre _)

/-! ## The run -/

/-- Past a program already at its end the run continues with what follows it. -/
theorem wp_after {α : Type} {t : Thread nD τ} {v : Option 𝒱₀.V} (k : PUnit → Prog (TpuEff nD τ sig (Elt F) Λ₀ t.2) α) {Q : α → sProp (𝕄 F)} :
    wp frame (wpE (defs₀ (F := F)) 𝒱₀ t v) Set.univ (k ⟨⟩) Q ⊢ wp frame (wpE (defs₀ (F := F)) 𝒱₀ t v) Set.univ ((Prog.ret PUnit.unit).bind k) Q :=
  .rfl

-- one step of the executor per copy and wait of the kernel, each over contents of 512 rows of 128
set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileHas m d (m (oLoc d)) (tileNo L)
        ∗ scopedBufs (thr d L) ∗ scopedSems0 (thr d L) ∗ owes (thr d L) O W)
      ⊢ wp frame (wpE (defs₀ (F := F)) 𝒱₀ (thr d L) none) Set.univ
          (cc1__gather_body L xV (Memref.isWhole_whole _) iV (Memref.isWhole_whole _) oV (Memref.isWhole_whole _)
            sV (Memref.isWhole_whole _) rV (Memref.isWhole_whole _) cc1_scratch2 cc1_scratch3 cc1_scoped0 cc1_scoped1)
          fun _ => iprop(tileHas m d (out m d) (tileNo L)
            ∗ scopedBufs (thr d L) ∗ scopedSems0 (thr d L)
            ∗ ∃ W', ⌜∀ p ∈ W', p ∈ W ∨ p.2 = none⌝ ∗ owes (thr d L) O W') := by
  simp only [cc1__gather_body_eq_skeleton]; unfold cc1__gather_body_skel
  rw [(K (F := F)).scopedBufs_V hF d (cV L) (jV L), SparseCore.Cfg.scopedSems0_V (Val := Elt F) d (cV L) (jV L), ownSems0_tile, ownBufs_tile]
  iintro ⟨#Hlv, -, ⟨Hi, Hx, Ho⟩, ⟨⟨%fs, Hs⟩, ⟨%fr, Hr⟩, Hbufs⟩, ⟨HsI, HsA, HsB, HsO, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iBlkK d L _).symm) $$ Hi
  ihave Ho' := (Entails.of_eq (pts_oBlkK d L _).symm) $$ Ho
  ihave Hs' := (Entails.of_eq (show ((thr d L).loc cc1_scratch0 ↦{fullShare} fs : sProp (𝕄 F)) = (sV).view.loc (thr d L) ↦{fullShare} fs from rfl)) $$ Hs
  sl_exec
  -- the index scratch holds the tile's block of `idx`; scratch buffers and table share cut in two, one part per gather
  ihave Hs2 := (Entails.of_eq (show ((sV).view.loc (thr d L) ↦{fullShare} View.write (Elt F) (sV).view fs (tile_body.sl.dma0 m d L) Finset.univ : sProp (𝕄 F))
      = (thr d L).loc cc1_scratch0 ↦{fullShare} ival m d L from congrArg _ (View.write_whole_univ _ _ _))) $$ Hs'
  ihave Hs3 := (pts_sV d L _).1 $$ Hs2
  icases Hs3 with ⟨HsLo, HsHi⟩
  ihave Hr2 := (pts_rV d L _).1 $$ Hr
  icases Hr2 with ⟨HrLo, HrHi⟩
  ihave Hx2 := (pts_xAllK d L _ _).1 $$ Hx
  icases Hx2 with ⟨HxA, HxB⟩
  -- the first gather's issue, and the second's: both in flight at once
  iapply (SparseCore.wp_indirectGatherLocal countersEmb 𝒱₀ (thr d L) none (hg := gathers_S7813x128_S256x128) (default : HIx 1)
      (rLo).view.dmaCredit (SparseCore.sum_rowCredit_eq_dmaCredit (rLo) _ (fun _ => rfl)) (by decide) (inb_half m d L hpre inb_S512_S256_0)) $$ [HxA HrLo HsLo HsA]
  · isplitl [HxA]; · iexact HxA
    isplitl [HrLo]; · iexact HrLo
    isplitl [HsLo]; · iexact HsLo
    iexact HsA
  iintro HflA
  iapply (SparseCore.wp_indirectGatherLocal countersEmb 𝒱₀ (thr d L) none (hg := gathers_S7813x128_S256x128) (default : HIx 1)
      (rHi).view.dmaCredit (SparseCore.sum_rowCredit_eq_dmaCredit (rHi) _ (fun _ => rfl)) (by decide) (inb_half m d L hpre inb_S512_S256_256)) $$ [HxB HrHi HsHi HsB]
  · isplitl [HxB]; · iexact HxB
    isplitl [HrHi]; · iexact HrHi
    isplitl [HsHi]; · iexact HsHi
    iexact HsB
  iintro HflB
  -- their waits
  iapply (Transfers.wp_waitLocalO countersEmb 𝒱₀ (thr d L) none (default : HIx 1) (rfl : (rLo).view.dmaCredit = _)) $$ [HflA HO]
  · isplitl [HflA]; · iexact HflA
    isplitl [HO]; · iexact HO
    iapply (Transfers.MayWaits.elim (SemLoc.dma cc1_scratch2.sem)) $$ Hmw
  iintro ⟨⟨HrLo, HxA, HsLo⟩, HsA, HO⟩
  iapply (Transfers.wp_waitLocalO countersEmb 𝒱₀ (thr d L) none (default : HIx 1) (rfl : (rHi).view.dmaCredit = _)) $$ [HflB HO]
  · isplitl [HflB]; · iexact HflB
    isplitl [HO]; · iexact HO
    iapply (Transfers.MayWaits.elim (SemLoc.dma cc1_scratch3.sem)) $$ Hmw
  iintro ⟨⟨HrHi, HxB, HsHi⟩, HsB, HO⟩
  -- the parts together again, the row scratch at the rows the block names
  ihave Hx := (pts_xAllK d L _ _).2 $$ [HxA HxB]; · isplitl [HxA] <;> iassumption
  ihave Hs := (pts_sV d L _).2 $$ [HsLo HsHi]; · isplitl [HsLo] <;> iassumption
  ihave HrLo' := (Entails.of_eq (pointsTo_congr (g := rval m d L)
    (gather_half m d L hpre inb_S512x128_S256x128_0_0 inb_S512_S256_0 fr (inb_half m d L hpre inb_S512_S256_0)))) $$ HrLo
  ihave HrHi' := (Entails.of_eq (pointsTo_congr (g := rval m d L)
    (gather_half m d L hpre inb_S512x128_S256x128_256_0 inb_S512_S256_256 fr (inb_half m d L hpre inb_S512_S256_256)))) $$ HrHi
  ihave Hr := (pts_rV d L _).2 $$ [HrLo' HrHi']; · isplitl [HrLo'] <;> iassumption
  ihave Hr' := (Entails.of_eq (show ((thr d L).loc cc1_scratch1 ↦{fullShare} rval m d L : sProp (𝕄 F)) = (rV).view.loc (thr d L) ↦{fullShare} rval m d L from rfl)) $$ Hr
  iapply (wp_after _)
  sl_exec
  sl_step
  isplitl [Hi' Hx Ho']
  · isplitl [Hi']; · iapply (Entails.of_eq (pts_iBlkK d L _)); iexact Hi'
    isplitl [Hx]; · iexact Hx
    iapply (Entails.of_eq ((pointsTo_congr (g := out m d) (out_block m d L (m (oLoc d)))).trans (pts_oBlkK d L _))); iexact Ho'
  isplitl [Hs Hr' Hbufs]
  · isplitl [Hs]; · iexists _; iexact Hs
    isplitl [Hr']; · iexists _; iexact Hr'
    iexact Hbufs
  isplitl [HsI HsA HsB HsO Hsems]
  · isplitl [HsI]; · iexact HsI
    isplitl [HsA]; · iexact HsA
    isplitl [HsB]; · iexact HsB
    isplitl [HsO]; · iexact HsO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The call's obligation for a tile -/

/-- The grid point of core `c`, tile `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s)
          xV (Memref.isWhole_whole _) iV (Memref.isWhole_whole _) oV (Memref.isWhole_whole _)
          sV (Memref.isWhole_whole _) rV (Memref.isWhole_whole _) cc1_scratch2 cc1_scratch3 cc1_scoped0 cc1_scoped1) ⟨⟩ c s := rfl

/-- Every wait the tile recorded is one of its own, or one it began with: the form the launch asks. -/
theorem post_waits {t : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') :=
  sep_mono_right (sep_mono_right (sep_mono_right (exists_mono fun _ => sep_mono_left (Laws.pure_mono fun h p hp =>
    (h p hp).imp_right Or.inl))))

-- deep: the arrays' sizes (16384, 7813) are literals
set_option maxRecDepth 16384 in
/-- What the launch theorem asks of the call's tiles. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => post_waits)

end Cert.Proof.Rows

end
-- ==== Proof.Split.lean ====
/-
  The whole arrays are the tiles' parts: `idx` and the result cut into thirty-two blocks, the table's points-to into
  thirty-two shares, and the parts grouped core by core as the call hands them out and takes them back.
-/
module

public import proofs.«01_k».proof.Proof.Setup

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The blocks are disjoint and cover -/

theorem iSet_eq (w : Fin 32) : iSet w = (iblk w).set := View.set_slice_whole _ _
theorem oSet_eq (w : Fin 32) : oSet w = (oblk w).set := View.set_slice_whole _ _

theorem iSet_disjoint : ∀ w ∈ (Finset.univ : Finset (Fin 32)), ∀ w' ∈ (Finset.univ : Finset (Fin 32)), w ≠ w' → Disjoint (iSet w) (iSet w') :=
  fun w _ w' _ h => by rw [iSet_eq, iSet_eq]; exact Rect.part_disjoint idiv h
theorem oSet_disjoint : ∀ w ∈ (Finset.univ : Finset (Fin 32)), ∀ w' ∈ (Finset.univ : Finset (Fin 32)), w ≠ w' → Disjoint (oSet w) (oSet w') :=
  fun w _ w' _ h => by rw [oSet_eq, oSet_eq]; exact Rect.part_disjoint odiv h
theorem iSet_cover : (Finset.univ : Finset (Fin 32)).biUnion iSet = Finset.univ :=
  (Finset.biUnion_congr rfl fun w _ => iSet_eq w).trans (Rect.biUnion_part idiv)
theorem oSet_cover : (Finset.univ : Finset (Fin 32)).biUnion oSet = Finset.univ :=
  (Finset.biUnion_congr rfl fun w _ => oSet_eq w).trans (Rect.biUnion_part odiv)

/-- `idx`, whole, is its thirty-two blocks; -/
theorem idx_blocks (d : Dev nD) (f : Buf (Elt F) (iLoc d)) :
    (iLoc d ↦{fullShare} f : sProp (𝕄 F)) = bigSep Finset.univ fun w : Fin 32 => iLoc d ↦[iSet w]{fullShare} f := by
  rw [← pointsTo_biUnion Finset.univ (ℓ := iLoc d) iSet iSet_disjoint, iSet_cover]
/-- the result, whole, its thirty-two blocks; -/
theorem out_blocks (d : Dev nD) (f : Buf (Elt F) (oLoc d)) :
    (oLoc d ↦{fullShare} f : sProp (𝕄 F)) = bigSep Finset.univ fun w : Fin 32 => oLoc d ↦[oSet w]{fullShare} f := by
  rw [← pointsTo_biUnion Finset.univ (ℓ := oLoc d) oSet oSet_disjoint, oSet_cover]
/-- and the table thirty-two shares of it. -/
theorem tab_shares (d : Dev nD) (f : Buf (Elt F) (xLoc d)) :
    (xLoc d ↦{fullShare} f : sProp (𝕄 F)) = bigSep Finset.univ fun w : Fin 32 => xLoc d ↦{xq w} f :=
  pointsTo_piecesOf Finset.univ f (by decide) fullShare

/-! ## The tiles, core by core -/

/-- Every number below thirty-two is one core's one tile's. -/
def widEquiv : Fin 2 × Fin 16 ≃ Fin 32 where
  toFun p := wid p.1 p.2
  invFun w := (⟨w.val % 2, by omega⟩, ⟨w.val / 2, by omega⟩)
  left_inv p := Prod.ext (Fin.ext (by simp only [wid]; omega)) (Fin.ext (by simp only [wid]; omega))
  right_inv w := Fin.ext (by simp only [wid]; omega)

/-- What is separate for each number below thirty-two is separate for each core and each tile of it. -/
theorem bigSep_cores (Φ : Fin 32 → sProp (𝕄 F)) :
    bigSep Finset.univ Φ = bigSep Finset.univ fun c : Fin 2 => bigSep Finset.univ fun s : Fin 16 => Φ (wid c s) := by
  rw [bigSep_univ_equiv widEquiv Φ, bigSep_univ_prod]; rfl

variable (m : (ℓ : Loc nD τ sig) → Buf (Elt F) ℓ) [FloatOps F]

/-- The three arrays of the call, whole, the table computed and the result at `f`, are what the two cores hold. -/
theorem cores_eq (d : Dev nD) (f : Buf (Elt F) (oLoc d)) :
    iprop(iPts m d ∗ xPts d (tab m d) ∗ oPts d f) = bigSep Finset.univ fun c : Fin 2 => coreHas m d f c := by
  unfold coreHas
  rw [← bigSep_cores (F := F) (fun w => tileHas m d f w)]
  unfold tileHas
  rw [bigSep_sep', bigSep_sep']
  unfold iPts xPts oPts
  rw [idx_blocks, out_blocks, tab_shares]

/-- The cores' and the tiles' counts are the grid's. -/
theorem st_eq (d : Dev nD) :
    (bigSep Finset.univ fun c : Fin ((K (F := F)).nCore 0) => (P m).st 0 d c) = iprop(iPts m d ∗ xPts d (tab m d) ∗ oPts d (m (oLoc d))) :=
  (bigSep_congr (I := Fin 2) fun _ _ => rfl).trans (cores_eq m d _).symm
theorem dn_eq (d : Dev nD) :
    (bigSep Finset.univ fun c : Fin ((K (F := F)).nCore 0) => (P m).dn 0 d c) = iprop(iPts m d ∗ xPts d (tab m d) ∗ oPts d (out m d)) :=
  (bigSep_congr (I := Fin 2) fun _ _ => rfl).trans (cores_eq m d _).symm

/-- A core hands its tiles what it was handed, and hands back what they leave. -/
theorem vecSplit : (K (F := F)).VecSplit' (P m) 0 := by
  intro d c
  show coreHas m d (m (oLoc d)) (Fin.cast nCore_zero c) ⊢ |={Set.univ}=> iprop(coreHas m d (m (oLoc d)) (Fin.cast nCore_zero c)
    ∗ (coreHas m d (out m d) (Fin.cast nCore_zero c) -∗ coreHas m d (out m d) (Fin.cast nCore_zero c)))
  iintro H; imodintro
  isplitl [H]; · iexact H
  iintro H; iexact H

end Cert.Proof.Rows

end
-- ==== Proof.Region.lean ====
/-
  The TensorCore call: @main's first operation fills the table with the sigmoid of `mask`, the whole array in one block.

  It runs while the TensorCore still owes the SparseCore call's starts, and the recorded waits must stay below the call's
  levels, so the thread state keeps both: what is owed before call 0, and that every recorded wait is at level 0 — where
  the call's own waits, on its staging semaphores, are too.
-/
module

public import proofs.«01_k».proof.Proof.Setup
public import Idealize.ShloMosaic.Lib.Pipeline.Frame
public import Idealize.ShloMosaic.Lib.Pipeline.RegionArrays
public import Idealize.ShloMosaic.Lib.Pipeline.ValueKit

@[expose] public section

noncomputable section

namespace Cert.Proof.Rows

open Cert.KernelIdeal Cert.KernelIdeal.Gen

open Idealize.ShloMosaic Idealize.ShloMosaic.Tactic
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-! ## The body on its two staging buffers -/

theorem origin : (![0, 0] : Fin S7813x128.rank → Nat) = fun _ => 0 := by decide

/-- From both staging buffers held whole, the body leaves the first as it was and the second reading as the sigmoid of
    what the first reads. -/
theorem sigmoid_body (d : Dev nD) (M0 : Memref sig .tc .vmem S7813x128 .f32) (h0 : M0.IsWhole) (M1 : Memref sig .tc .vmem S7813x128 .f32) (h1 : M1.IsWhole)
    (f0 : Buf (Elt F) (M0.view.loc (SparseCore.T d))) (f1 : Buf (Elt F) (M1.view.loc (SparseCore.T d))) (Q : PUnit → sProp (𝕄 F)) :
    iprop((M0.view.loc (SparseCore.T d) ↦{fullShare} f0) ∗ (M1.view.loc (SparseCore.T d) ↦{fullShare} f1)
        ∗ (iprop((M0.view.loc (SparseCore.T d) ↦{fullShare} f0)
            ∗ ∃ g, ⌜M1.view.read (Elt F) g = k0_pay1 (F := F) (M0.view.read (Elt F) f0)⌝ ∗ (M1.view.loc (SparseCore.T d) ↦{fullShare} g)) -∗ Q ⟨⟩))
      ⊢ wp frame (wpE (defs₀ (F := F)) 𝒱₀ (SparseCore.T d) none) Set.univ (cc0__sigmoid_body (F := F) M0 h0 M1 h1) Q := by
  rw [cc0__sigmoid_body_eq_skeleton]
  unfold cc0__sigmoid_body_skel
  iintro ⟨H0, H1, Hk⟩
  sl_exec!
  sl_step
  iapply Hk
  isplitl [H0]; · iexact H0
  iexists _; isplitr; swap; · iexact H1
  ipureintro
  rw [View.read_writes_junk_eq_canon]
  unfold sigmoid_body.sl.H1_1
  rw [View.canon_unit_zero origin]
  exact congrArg (k0_pay1 (F := F)) (View.ld_unit_zero origin _ _)

/-! ## The call over @main's arrays -/

variable (m : (ℓ : Loc nD τ sig) → Buf (Elt F) ℓ)

/-- The pipeline takes no table in advance. -/
abbrev adm : (p : Fin 1) → (pcfgs (F := F) p).Adm := fun p => (cfgs p).toPCfg_adm

/-- The waits recorded so far are all at level 0: the bound the SparseCore call wants of them. -/
abbrev low (d : Dev nD) : Set (SemLoc sig × HIx 1) := {p | (K (F := F)).lev (SparseCore.T d, p.1) p.2 ≤ 0}

/-- What the call is about: `mask` and the table as the launch finds them, staged whole; the first staging buffer left at
    `mask`, the second at its sigmoid; the SparseCore call's starts owed throughout. -/
def callDat (d : Dev nD) : Dat τ (Elt F) (HIx 1) ℕ UU ℕ cfg0 d where
  A w := m ((SparseCore.T d).loc (Pipeline.arrRef spec0 w))
  after w _ := match w with
    | ⟨0, _⟩ => m (aLoc d)
    | ⟨1, _⟩ => tab m d
  Φ _ := BI.emp
  q _ := fullShare
  owed _ := (K (F := F)).Otc d 0
  recorded _ := low (F := F) d

abbrev callDats : (p : Fin 1) → (d : Dev nD) → Dat τ (Elt F) (HIx 1) ℕ UU ℕ (Pipeline.pin (pcfgs (F := F)) adm p) d :=
  fun | 0 => callDat m | ⟨_ + 1, h⟩ => absurd h (Nat.not_lt.2 (Nat.le_add_left _ _))

/-- When the body runs, the first staging buffer holds `mask`. -/
theorem before_mask (d : Dev nD) (x : (cfg0.win 0).block.Idx → Elt F (cfg0.win 0).elt) : (callDat m d).before 0 t0_0 x = m (aLoc d) := by
  unfold Dat.before
  rw [if_pos (fetch0_0 t0_0)]
  funext y
  exact congrArg (m (aLoc d)) (funext fun a => Fin.ext ((win0_0).rect_emb_val_of_index_zero t0_0 a rfl y))

/-- The body does at the one point what the data say. -/
theorem call_body (d : Dev nD) : BodyObligation (callDat m d) (defs₀ (F := F)) 𝒱₀ none Set.univ := fun t => by
  obtain rfl := fin_N0 t
  rw [bigSep_W0, bigSep_W0]
  simp only [owns_whole_eq]
  rw [show (callDat m d).Φ t0_0.succ = (callDat m d).Φ t0_0.castSucc from rfl,
    show (callDat m d).owesAt none t0_0.succ = (callDat m d).owesAt none t0_0.castSucc from rfl]
  iintro ⟨HΦ, HO, ⟨%x0, %f0, %e0, H0⟩, ⟨%x1, %f1, -, H1⟩⟩
  rw [before_mask] at e0
  subst e0
  iapply (sigmoid_body d (stage0_0 0) (hstage0_0 0) (stage0_1 0) (hstage0_1 0) (m (aLoc d)) f1 _)
  isplitl [H0]; · iexact H0
  isplitl [H1]; · iexact H1
  iintro ⟨H0, ⟨%g, %hg, H1⟩⟩
  isplitl [HΦ]; · iexact HΦ
  isplitl [HO]; · iexact HO
  isplitl [H0]
  · iexists _; isplitr; swap; · iexact H0
    ipureintro; rfl
  iexists _; isplitr; swap; · iexact H1
  ipureintro; exact hg

/-- After the call the table holds the sigmoid of `mask`; -/
theorem table_after (d : Dev nD) : (callDat m d).arrAt 1 cfg0.N = tab m d :=
  (callDat m d).arrAt_eq_of_after_last 1 t0_0 (by decide +kernel) _ fun _ => rfl

/-- `mask` is as it was. -/
theorem mask_after (d : Dev nD) (n : ℕ) : (callDat m d).arrAt 0 n = m (aLoc d) := (callDat m d).arrAt_in 0 rfl n

/-- `mask` as the launch finds it. -/
abbrev aPts (d : Dev nD) : sProp (𝕄 F) := aLoc d ↦{fullShare} m (aLoc d)

/-- What the TensorCore owes before the SparseCore call, with the bound on its recorded waits. -/
abbrev owesLow (d : Dev nD) : sProp (𝕄 F) :=
  iprop(∃ W, ⌜(K (F := F)).WBelow (SparseCore.T d) W 0⌝ ∗ owes (SparseCore.T d) ((K (F := F)).Otc d 0) W)

/-- The two arrays of the call are its windows'. -/
theorem arrays_two (d : Dev nD) (G : (w : Fin cfg0.W) → Buf (Elt F) ((cfg0.win w).arr.view.loc (d.tc : Thread nD τ))) :
    ((callDats m 0 d).arrays G : sProp (𝕄 F)) = iprop((aLoc d ↦{fullShare} G 0) ∗ (xLoc d ↦{fullShare} G 1)) := by
  rw [Pipeline.arrays_eq (Pipeline.pin (pcfgs (F := F)) adm) (callDats m) 0 d launch0.arr_whole ((callDats m 0 d).share_full fun _ => rfl) G]
  exact bigSep_W0 _

/-- Before the call they are as the launch left them, -/
theorem arrays_before (d : Dev nD) :
    ((callDats m 0 d).arrays ((callDats m 0 d).arrAt · 0) : sProp (𝕄 F)) = iprop(aPts m d ∗ xPts d (m (xLoc d))) :=
  (arrays_two m d _).trans rfl
/-- and after it the table is the sigmoid of `mask`. -/
theorem arrays_after (d : Dev nD) :
    ((callDats m 0 d).arrays ((callDats m 0 d).arrAt · (Pipeline.pin (pcfgs (F := F)) adm 0).N) : sProp (𝕄 F)) = iprop(aPts m d ∗ xPts d (tab m d)) :=
  (arrays_two m d _).trans (congrArg₂ (fun f g => iprop((aLoc d ↦{fullShare} f) ∗ (xLoc d ↦{fullShare} g))) (mask_after m d _) (table_after m d))

/-- The bound on the recorded waits is the data's bound: the call's own waits are at level 0 too. -/
theorem owesLow_eq (d : Dev nD) (t : Fin (cfg0.N + 1)) : (callDat m d).owesAt none t = owesLow (F := F) d := by
  have h : ∀ W : Finset (SemLoc sig × HIx 1), (↑W ⊆ (callDat m d).bound none t) = (K (F := F)).WBelow (SparseCore.T d) W 0 := fun W => propext
    ⟨fun h p hp => (h hp).elim id fun ⟨_, _, e⟩ => Nat.le_of_eq (e ▸ rfl), fun h p hp => Or.inl (h p hp)⟩
  unfold Pipeline.Dat.owesAt Pipeline.owesWithin owesLow
  simp only [h]
  rfl

-- the call's arrays are typed by the windows' shapes, which unfold to the arrays' own
set_option backward.isDefEq.respectTransparency.types false in
/-- The call: it takes `mask` and the table at any contents the launch left there, and gives them back with the table at
    the sigmoid of `mask`. -/
def sigmoidCall : Pipeline.RegionSeg (pcfgs (F := F)) adm (callDats m) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (call_body m d).loose
  hwaits d := Pipeline.cellsWaits_of_cut (Pipeline.pin (pcfgs (F := F)) adm) (callDats m) none 0 d 0 ((K (F := F)).Otc d 0) (fun _ => rfl)
    (fun _ _ => Finset.mem_univ _) (fun _ _ => Nat.le_refl _)
    (fun g i h => ⟨Finset.mem_univ _, Nat.lt_of_lt_of_le (Nat.succ_pos _) (SparseCore.Cfg.lev_of_Otc_pos h)⟩)
  pre d := iprop(aPts m d ∗ xPts d (m (xLoc d)) ∗ owesLow (F := F) d)
  post d := iprop(aPts m d ∗ xPts d (tab m d) ∗ owesLow (F := F) d)
  X _ := BI.emp
  Y _ := BI.emp
  Z _ := BI.emp
  hentry d := by
    rw [Pipeline.ownSems0_none, Pipeline.prefHeld_of_none _ rfl, arrays_before, ← owesLow_eq m d 0]
    iintro ⟨⟨Ha, Hx, HO⟩, -, -⟩
    imodintro
    isplitl [Ha Hx]; · isplitl [Ha] <;> iassumption
    isplitr; · iempintro
    isplitl [HO]; · iexact HO
    isplitr <;> iempintro
  hin d := by
    rw [show (callDats m 0 d).Φ 0 = BI.emp from rfl]
    iintro ⟨H, -, -⟩; iexact H
  hout d := by
    rw [Pipeline.ownSems0_none, scopedRest0_eq, show (callDats m 0 d).Φ (Fin.last _) = BI.emp from rfl]
    iintro H
    isplitl [H]; · iexact H
    isplitr <;> iempintro
  hexit d := by
    rw [arrays_after, ← owesLow_eq m d (Fin.last _)]
    iintro ⟨⟨Ha, Hx⟩, HO, -, -⟩
    imodintro
    isplitl [Ha]; · iexact Ha
    isplitl [Hx]; · iexact Hx
    iexact HO

end Cert.Proof.Rows

end
-- ==== Proof.Launch.lean ====
/-
  The run of the whole program: the ghost state it is launched with, @main on the TensorCore — the table, then the gather —
  and the launch theorem applied.
-/
module

public import proofs.«01_k».proof.Proof.Tile
public import proofs.«01_k».proof.Proof.Split
public import proofs.«01_k».proof.Proof.Region

@[expose] public section

noncomputable section

namespace Cert.Proof.Rows

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

variable (m : (ℓ : Loc nD τ sig) → Buf (Elt F) ℓ) (ρ : Dev nD → PrngReg)

/-! ## The ghost state at the launch -/

/-- The staging cells of the TensorCore call, and the tokens of its transfers. -/
abbrev stCells : Finset (GSem nD τ sig) := Pipeline.cells (nD := nD) (τ := τ) (Pipeline.pin (pcfgs (F := F)) adm) cellOf_inj
abbrev stToks : Finset (GSem nD τ sig × ℕ × Unit) := Pipeline.launchToks (nD := nD) (τ := τ) (Pipeline.pin (pcfgs (F := F)) adm) cellOf_inj

/-- The handshakes' cells and tokens, the staging cells and theirs, no counter yet. -/
def u₀ : UU := (initOf (K (F := F)).hsCells (K (F := F)).hsToks, (initOf (stCells (F := F)) (stToks (F := F)), 1))

/-- What the TensorCore call is run with on device `d`: its staging cells and its transfers' tokens. -/
abbrev stGhost (d : Dev nD) : sProp (𝕄 F) :=
  iprop(Pipeline.cellsGhost (Pipeline.pin (pcfgs (F := F)) adm) EP 0 d ∗ Pipeline.toksInit (Pipeline.pin (pcfgs (F := F)) adm) EP 0 d)

/-- There is one TensorCore call, so the cells over all calls are its cells. -/
theorem stCells_eq : (bigSep Finset.univ fun d : Dev nD => (Pipeline.cellsGhost (Pipeline.pin (pcfgs (F := F)) adm) EP 0 d : sProp (𝕄 F)))
    = bigSep Finset.univ fun d => bigSep Finset.univ fun p : Fin 1 => Pipeline.cellsGhost (Pipeline.pin (pcfgs (F := F)) adm) EP p d :=
  bigSep_congr fun d _ => (bigSep_univ_of_subsingleton (0 : Fin 1) (Φ := fun p => Pipeline.cellsGhost (Pipeline.pin (pcfgs (F := F)) adm) EP p d)).symm

/-- Likewise the tokens. -/
theorem stToks_eq : (bigSep Finset.univ fun d : Dev nD => (Pipeline.toksInit (Pipeline.pin (pcfgs (F := F)) adm) EP 0 d : sProp (𝕄 F)))
    = bigSep Finset.univ fun d => bigSep Finset.univ fun p : Fin 1 => Pipeline.toksInit (Pipeline.pin (pcfgs (F := F)) adm) EP p d :=
  bigSep_congr fun d _ => (bigSep_univ_of_subsingleton (0 : Fin 1) (Φ := fun p => Pipeline.toksInit (Pipeline.pin (pcfgs (F := F)) adm) EP p d)).symm

/-- The launch's ghost state pays for the handshakes and for the TensorCore call; the tiles are handed nothing at the start. -/
theorem hu₀ : (ownU (u₀ (F := F)) : sProp (𝕄 F))
    ⊢ |={Set.univ}=> iprop(BI.own (EH (initOf (K (F := F)).hsCells (K (F := F)).hsToks)) ∗ (bigSep Finset.univ fun d : Dev nD => stGhost (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (stCells (F := F)) (stToks (F := F)), (1 : Counters))) $$ Hu
  icases H with ⟨HH, HR⟩
  ihave H := (own_pair_emb embR (initOf (stCells (F := F)) (stToks (F := F))) (1 : Counters)) $$ HR
  icases H with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [bigSep_sep']
    isplitl [Hc]
    · rw [stCells_eq]; iexact Hc
    rw [stToks_eq]; iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => iprop(emp)) = (iprop(emp) : sProp (𝕄 F)) from bigSep_emp_const _]
  iempintro

/-! ## @main on the TensorCore -/

/-- The TensorCore's arrays outside the calls are @main's four. -/
theorem unscopedBufs_eq (d : Dev nD) (W : (b : Ref sig .tc) → Buf (Elt F) ((d.tc : Thread nD τ).loc b)) :
    (unscopedBufs d W : sProp (𝕄 F)) = iprop((aLoc d ↦{fullShare} W main_arg0) ∗ (iLoc d ↦{fullShare} W main_arg1)
      ∗ (xLoc d ↦{fullShare} W main_v0) ∗ (oLoc d ↦{fullShare} W main_v1)) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The TensorCore's state before the SparseCore call is what it owes, its waits recorded at level 0, and the rest. -/
theorem tcSt_split (d : Dev nD) : ∃ R : sProp (𝕄 F), (K (F := F)).tcSt EH d 0 = iprop(owesLow (F := F) d ∗ R) := by
  unfold SparseCore.Cfg.tcSt
  rw [show 8 * SparseCore.Cfg.Blocks.fst 1 1 0 = 0 from rfl]
  exact ⟨_, rfl⟩

/-- The TensorCore call, in the program of the TensorCore calls alone. -/
theorem call_step (d : Dev nD) (Q : PUnit → sProp (𝕄 F)) :
    iprop((iprop(boundary (SparseCore.T d) ∗ aPts m d ∗ xPts d (tab m d) ∗ owesLow (F := F) d) -∗ Q ⟨⟩)
        ∗ boundary (SparseCore.T d) ∗ (aPts m d ∗ xPts d (m (xLoc d)) ∗ owesLow (F := F) d)
        ∗ levAts (K (F := F)).L (K (F := F)).lev ∗ stGhost (F := F) d)
      ⊢ wp frame (wpE (D (F := F)) 𝒱 (SparseCore.T d) none) Set.univ (.op (.customCall (Pipeline.entry 0) ()) fun x => .ret x) Q := by
  refine BIBase.Entails.trans ?_ (Pipeline.RegionSeg.wp (pcfgs (F := F)) adm (callDats m) none cellOf_inj EP (defs₀ (F := F)) 𝒱₀ (K (F := F)).L
    (K (F := F)).lev (sigmoidCall m) d none (fun _ h => nomatch h) (fun x => .ret x) Q)
  iintro ⟨Hk, Hrest⟩
  isplitl [Hk]
  · iintro H
    rw [wp_ret]
    imodintro
    iapply Hk; iexact H
  iexact Hrest

/-- @main's first operation is that call, lifted to the program with the SparseCore call. -/
theorem lift_call (d : Dev nD) :
    SparseCore.liftProg (Q := 1) (.op (.customCall (Pipeline.entry 0) ()) fun x => .ret x : Prog (TpuEff nD τ sig (Elt F) (ΛP (F := F)) (SparseCore.T d).2) PUnit)
      = Prog.lift (.customCall (SparseCore.inner (Pipeline.entry 0)) ()) := rfl

/-- @main's first operation: the table, from `mask`. -/
theorem table_step (κ : GSem nD τ sig → ℕ) (d : Dev nD) (Q : PUnit → sProp (𝕄 F)) :
    iprop((K (F := F)).ctx EH (P m) κ ∗ (K (F := F)).tcSt EH d 0 ∗ boundary (SparseCore.T d) ∗ aPts m d ∗ xPts d (m (xLoc d)) ∗ stGhost (F := F) d
        ∗ (iprop((K (F := F)).tcSt EH d 0 ∗ boundary (SparseCore.T d) ∗ aPts m d ∗ xPts d (tab m d)) -∗ Q ⟨⟩))
      ⊢ wp frame (wpE ((K (F := F)).defs (D (F := F))) 𝒱 (SparseCore.T d) none) Set.univ
          (Prog.lift (.customCall (SparseCore.inner (Pipeline.entry 0)) ())) Q := by
  obtain ⟨R, hR⟩ := tcSt_split (F := F) d
  rw [hR, ← lift_call]
  iintro ⟨#Hctx, ⟨HO, HR⟩, Hb, Ha, Hx, Hg, Hk⟩
  ihave Hlev := ((K (F := F)).ctx_levAts κ) $$ Hctx
  iapply ((K (F := F)).wp_liftProg (D (F := F)) 𝒱 (SparseCore.T d) Set.univ none _ Q)
  iapply (call_step m d Q)
  isplitl [Hk HR]
  · iintro ⟨Hb, Ha, Hx, HO⟩
    iapply Hk
    isplitl [HO HR]; · isplitl [HO] <;> iassumption
    isplitl [Hb]; · iexact Hb
    isplitl [Ha] <;> iassumption
  isplitl [Hb]; · iexact Hb
  isplitl [Ha Hx HO]
  · isplitl [Ha]; · iexact Ha
    isplitl [Hx] <;> iassumption
  isplitr; · iexact Hlev
  iexact Hg

/-- What @main leaves: `mask` and `idx` as they were, the result filled. -/
abbrev FIN (d : Dev nD) : sProp (𝕄 F) := iprop(aPts m d ∗ iPts m d ∗ oPts d (out m d))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ stGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hi, Hx, Ho⟩, Hts, -⟩, Hg⟩
  iapply (table_step m κ d)
  isplitr; · iexact Hctx
  isplitl [Hst]; · iexact Hst
  isplitl [Hb]; · iexact Hb
  isplitl [Ha]; · iexact Ha
  isplitl [Hx]; · iexact Hx
  isplitl [Hg]; · iexact Hg
  iintro ⟨Hst, Hb, Ha, Hx⟩
  iapply ((K (F := F)).wp_run (D (F := F)) 𝒱 (EH := EH) (P := P m) κ d 0) $$ [Hst Ha Hi Hx Ho Hb Hts]
  isplitr; · iexact Hctx
  isplitl [Hst]; · iexact Hst
  isplitl [Hi Hx Ho]
  · rw [st_eq]
    isplitl [Hi]; · iexact Hi
    isplitl [Hx] <;> iassumption
  rw [dn_eq]
  iintro ⟨Hst, ⟨Hi, -, Ho⟩⟩
  imodintro
  isplitl [Hst]; · iexact Hst
  isplitr [Hb Hts]
  · isplitl [Ha]; · iexact Ha
    isplitl [Hi] <;> iassumption
  isplitl [Hb] <;> iassumption

/-! ## The final memory -/

/-- A memory in which device `d` has its arguments unchanged and its result filled. -/
def fq (d : Dev nD) (s' : Phys nD τ sig (Elt F)) : Prop :=
  s'.mem.mem (oLoc d) = out m d ∧ s'.mem.mem (aLoc d) = m (aLoc d) ∧ s'.mem.mem (iLoc d) = m (iLoc d)

/-- An array held whole is in the memory at the contents it is held at. -/
theorem mem_of_held (s' : Phys nD τ sig (Elt F)) (ℓ : Loc nD τ sig) (f : Buf (Elt F) ℓ) :
    iprop(SI s' ∗ (ℓ ↦{fullShare} f)) ⊢ (iprop(iprop(SI s' ∗ (ℓ ↦{fullShare} f)) ∗ ⌜s'.mem.mem ℓ = f⌝) : sProp (𝕄 F)) :=
  persistent_entails_left ((SI_pointsTo_agree (st := s') (ℓ := ℓ) (I := Finset.univ) (q := fullShare) (f := f)).trans
    (Laws.pure_mono fun h => funext fun i => h i (Finset.mem_univ i)))

theorem hfin (d : Dev nD) (s' : Phys nD τ sig (Elt F)) : iprop(FIN m d ∗ SI s') ⊢ (⌜fq m d s'⌝ : sProp (𝕄 F)) := by
  iintro ⟨⟨Ha, Hi, Ho⟩, HSI⟩
  ihave H := (mem_of_held s' (aLoc d) (m (aLoc d))) $$ [HSI Ha]
  · isplitl [HSI] <;> iassumption
  icases H with ⟨⟨HSI, -⟩, %ha⟩
  ihave H := (mem_of_held s' (iLoc d) (m (iLoc d))) $$ [HSI Hi]
  · isplitl [HSI] <;> iassumption
  icases H with ⟨⟨HSI, -⟩, %hi⟩
  ihave H := (mem_of_held s' (oLoc d) (out m d)) $$ [HSI Ho]
  · isplitl [HSI] <;> iassumption
  icases H with ⟨-, %ho⟩
  ipureintro; exact ⟨ho, ha, hi⟩

/-- What a run ends in: on every device the result filled and the arguments unchanged, and every semaphore at zero. -/
def QC : PUnit × MemSt nD τ sig (Elt F) → Prop := fun r =>
  (∀ d : Dev nD, r.2.mem (oLoc d) = out m d ∧ r.2.mem (aLoc d) = m (aLoc d) ∧ r.2.mem (iLoc d) = m (iLoc d)) ∧ r.2.sem = fun _ => 0

/-- From a memory whose indices all name rows of the table, every run of the program ends, and ends so. -/
theorem run_main (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (stGhost (F := F)) (FIN m) (u₀ (F := F)) (sep_elim_left.trans (hu₀ m)) (hmain m ρ) (fq m) (hfin m) (QC m) (fun _ h hz => ⟨h, hz⟩)

end Cert.Proof.Rows

end
-- ==== Proof.Reference.lean ====
/-
  The reference against the kernel: the precondition read at one index, and the reference's composed term — the sigmoid of
  `mask` written out, its rows taken at `idx` — equal to what the kernel leaves.
-/
module

public import proofs.«01_k».proof.Proof.Setup
public import proofs.«01_k».proof.Proof.Gen.ReferenceIdeal
public import proofs.«01_k».proof.Proof.Gen.Pre_in_range
public import Idealize.ShloMosaic.Lib.ReduceAll
public import Idealize.ShloMosaic.Lib.WordCmp
public import Idealize.ShloMosaic.Lib.Routing.Ops
public import Idealize.ShloMosaic.Lib.IdealHost

@[expose] public section

noncomputable section

namespace Cert.Proof.Rows

open Idealize.ShloMosaic Idealize.ShloMosaic.TcCoe
open Idealize.ShloMosaic.WordCmp

/-! ## The precondition -/

/-- Where `in_range` is all ones on every device, every index names a row of the table. -/
theorem preOK_of_in_range {F : FTy → Type} [FloatOps F] (m : (ℓ : Loc Cert.KernelIdeal.nD Cert.KernelIdeal.τ Cert.KernelIdeal.sig) → Buf (Elt F) ℓ)
    (h : ∀ d : Dev Cert.KernelIdeal.nD, Cert.Pre_in_range.fn (F := F) (m (aLoc d)) (m (iLoc d)) = fun _ => 1#1) : PreOK m := fun d j =>
  have e := Host.reduce_andi_all _ _ _ _ _ (congrFun (h d) (fun a => a.elim0)) j
  (ofBool_decide_eq_one_iff _).1 ((andi_sge_zero_slt_ofNat (k := 7813) (by decide) (m (iLoc d) j)).symm.trans e)

/-! ## One index -/

section Word

variable {v : BitVec 32} (hv : v.toNat < 7813)
include hv

/-- An index in range is not negative, so it is not wrapped round. -/
theorem wrap_word : Scalar.select (IntOp.cmpi .slt v 0#32) (IntOp.addi v 7813#32) v = v := by
  rw [cmpi_slt_zero, select_decide, if_neg (by omega)]

/-- An index in range passes the reference's bounds test. -/
theorem bounds_word : IntOp.andi (IntOp.cmpi .sge v 0#32) (IntOp.cmpi .sle v 7812#32) = 1#1 := by
  rw [cmpi_sge_zero, cmpi_sle_eq, andi_ofBool, ofBool_eq_one_iff, Bool.and_eq_true, decide_eq_true_eq, decide_eq_true_eq,
    toInt_eq_toNat_of_lt_half (by omega)]
  exact ⟨by omega, by show (v.toNat : Int) ≤ 7812; omega⟩

end Word

/-! ## The reference's term -/

open Cert.ReferenceIdeal Cert.ReferenceIdeal.Gen

variable (a : FVec Ideal S7813x128 .f32) (i : IVec S16384 32)

/-- The reference's sigmoid, written out. -/
def refTab : FVec Ideal S7813x128 .f32 :=
  Host.divf (broadcastInDim S7813x128 ![] bcast_S_S7813x128 (constant S_ .f32 0x3F800000#32))
    (addf (broadcastInDim S7813x128 ![] bcast_S_S7813x128 (constant S_ .f32 0x3F800000#32)) (Host.exp (Host.negf a)))

/-- The indices as the reference takes rows at them: the negative ones wrapped round, in one column. -/
def refIdx : IVec S16384x1 32 :=
  broadcastInDim S16384x1 ![0] bcast_S16384_S16384x1_0 (select (cmpi .slt i (broadcastInDim S16384 ![] bcast_S_S16384 (constantI S_ 32 0#32)))
    (addi i (broadcastInDim S16384 ![] bcast_S_S16384 (constantI S_ 32 7813#32))) i)

/-- The reference's bounds test of each index. -/
def refIn : IVec S16384x1 1 :=
  andi (cmpi .sge (refIdx i) (broadcastInDim S16384x1 ![] bcast_S_S16384x1 (constantI S_ 32 0#32)))
    (cmpi .sle (refIdx i) (broadcastInDim S16384x1 ![0, 1] bcast_S1x1_S16384x1_0_1 (broadcastInDim S1x1 ![1] bcast_S1_S1x1_1 (constantI S1 32 7812#32))))

/-- The reference's result. -/
def refOut : FVec Ideal S16384x128 .f32 :=
  select (broadcastInDim S16384x128 ![0] bcast_S16384_S16384x128_0
      (Host.reduce IntOp.andi (refIn i) (constantI S_ 1 1#1) reducesTo_S16384x1_S16384_d1 h_S_))
    (Host.gather gather_S7813x128_S16384x1_S16384x128_1_0_n_n_0_1_1128 (refTab a) (refIdx i))
    (broadcastInDim S16384x128 ![] bcast_S_S16384x128 (constant S_ .f32 0x7FC00000#32))

/-- The written-out sigmoid and the kernel's `logistic` are one function of extended reals. -/
theorem refTab_eq : refTab a = logistic a := by
  funext x
  show Ideal.div (Ideal.ofBits .f32 0x3F800000#32) (Ideal.ofBits .f32 0x3F800000#32 + Ideal.exp (-(a x))) = Ideal.logistic (a x)
  rw [show Ideal.ofBits .f32 0x3F800000#32 = 1 from Ideal.ofBits_one_f32]
  rfl

variable (hi : ∀ j, (i j).toNat < 7813)
include hi

/-- The column of indices holds `idx`. -/
theorem refIdx_eq (x : S16384x1.Idx) : refIdx i x = i (ix1 (x 0)) :=
  (broadcastInDim_apply _ _ _ x (ix1 (x 0)) fun a => match a with | ⟨0, _⟩ => rfl).trans (wrap_word (hi (ix1 (x 0))))

/-- Every index passes the bounds test. -/
theorem refIn_eq (x : S16384x1.Idx) : refIn i x = 1#1 := by
  refine Eq.trans ?_ (bounds_word (hi (ix1 (x 0))))
  rw [← refIdx_eq i hi x]
  rfl

/-- So the bounds test lets every row of the result through. -/
theorem refAll_eq (x : S16384x128.Idx) : broadcastInDim S16384x128 ![0] bcast_S16384_S16384x128_0
    (Host.reduce IntOp.andi (refIn i) (constantI S_ 1 1#1) reducesTo_S16384x1_S16384_d1 h_S_) x = 1#1 :=
  (broadcastInDim_apply _ _ _ x (ix1 (x 0)) fun a => match a with | ⟨0, _⟩ => rfl).trans
    (Host.reduce_andi_one _ _ _ _ _ (constantI_at _ _) (refIn_eq i hi))

/-- The reference's row `r` is the sigmoid's row `idx r`. -/
theorem refOut_apply (x : S16384x128.Idx) : refOut a i x = logistic a (ix2 (rowOf (i (ix1 (x 0)))) (x 1)) := by
  have hx : x = ValueIdx.ix2 (x 0) (x 1) := by funext k; match k with | ⟨0, _⟩ => rfl | ⟨1, _⟩ => rfl
  unfold refOut
  rw [select_at, select_of_eq_one (refAll_eq i hi x), refTab_eq]
  conv_lhs => rw [hx]
  refine (Routing.gather_row _ rfl rfl rfl rfl rfl _ _ _ _ (rowOf (i (ix1 (x 0)))) ?_ (by decide)).trans
    (congrArg (logistic a) (funext fun k => match k with | ⟨0, _⟩ => rfl | ⟨1, _⟩ => rfl))
  rw [refIdx_eq i hi, rowOf_val (hi _), BitVec.ofNat_toNat, BitVec.setWidth_eq]

end Cert.Proof.Rows

end
-- ==== Proof.lean ====
/-
  The proof of `Cert.Claim`.

  Launch.lean proves, for any float values, that from indices in range every run of the kernel ends with the result at `out`
  (row `r` the sigmoid's row `idx r`), the arguments unchanged and every semaphore at zero. The kernel's two frame claims are
  that at the machine's floats and at the ideal ones: no operation was replaced, so the two programs have one text. The
  algebraic claim is it beside the reference's run, whose term Reference.lean proves equal to `out`.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Reference

@[expose] public section

noncomputable section

namespace Cert.Proof

open Idealize.ShloMosaic Idealize.ShloMosaic.TcCoe Idealize.SL.Sem
open Cert.Proof.Rows

/-- The two programs' kernels are the same, label by label. -/
theorem same_kernels : Cert.Kernel.defs₀ (F := Bits) = Cert.KernelIdeal.defs₀ (F := Bits) := by
  funext pr ℓ a
  match pr, ℓ, a with
  | .tc, 0, (_, _) => rfl
  | .tc, 1, _ => rfl
  | .scVector _ _, 0, _ => rfl
  | .scVector _ _, 1, _ => rfl
  | .scScalar _, 0, _ => rfl
  | .scScalar _, 1, _ => rfl

/-- So their tables of bodies are. -/
theorem same_defs : Cert.Kernel.defs (F := Bits) = Cert.KernelIdeal.defs (F := Bits) :=
  congrArg (fun D => (Cert.Kernel.sc (F := Bits)).defs (Pipeline.defs Cert.Kernel.pcfgs D)) same_kernels

/-- The kernel at the machine's floats runs to the end, its arguments unchanged, every semaphore at zero. -/
theorem frame_kernel : Cert.quiescent_Kernel := fun m ρ hpre => by
  rw [same_defs]
  exact (θ_run (Cert.KernelIdeal.defs (F := Bits)) _ _).mono (fun _ h => ⟨fun c => (h.1 c).2, h.2⟩)
    (run_main (F := Bits) m ρ (preOK_of_in_range m hpre))

/-- The same at the ideal floats. -/
theorem frame_ideal : Cert.quiescent_KernelIdeal := fun m ρ hpre =>
  (θ_run (Cert.KernelIdeal.defs (F := Ideal)) _ _).mono (fun _ h => ⟨fun c => (h.1 c).2, h.2⟩) (run_main (F := Ideal) m ρ (preOK_of_in_range m hpre))

/-- The reference runs to the end, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the kernel leaves is the reference's result on the same arguments. -/
theorem out_eq (m : (ℓ : Loc Cert.KernelIdeal.nD Cert.KernelIdeal.τ Cert.KernelIdeal.sig) → Buf (Elt Ideal) ℓ) (hpre : PreOK m)
    (d : Dev Cert.KernelIdeal.nD) : refOut (m (aLoc d)) (m (iLoc d)) = out m d :=
  funext fun x => refOut_apply (m (aLoc d)) (m (iLoc d)) (hpre d) x

/-- At the ideal floats, from equal arguments, the kernel and the reference end with equal results. -/
theorem equal_results : Cert.algebraic_KernelIdeal_ReferenceIdeal := by
  intro m ρ m' ρ' hpre hagree
  have hok : PreOK m := preOK_of_in_range m hpre
  refine ⟨out m, (θ_run (Cert.KernelIdeal.defs (F := Ideal)) _ _).mono (fun _ h c => h.1 c) (run_main (F := Ideal) m ρ hok), ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  exact out_eq m hok c

theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, equal_results⟩

end Cert.Proof

end
